-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_zero_biases [hKernelIdeal : Cert.KernelIdeal.Facts] [hReferenceIdeal : Cert.ReferenceIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_zero_biases : Cert.Pre_zero_biases.Facts),
    quiescent_Kernel (hKernel := hKernel)
    ∧ quiescent_KernelIdeal (hKernelIdeal := hKernelIdeal)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ preserves_Kernel_KernelIdeal
    ∧ algebraic_KernelIdeal_ReferenceIdeal_pre_zero_biases (hKernelIdeal := hKernelIdeal) (hReferenceIdeal := hReferenceIdeal) (hPre_zero_biases := hPre_zero_biases)
-- ==== Pre_zero_biases.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S10000x128 .f32) (main_arg1 : IVec S2x320000 32) (main_arg2 : FVec F S128x128 .f32) (main_arg3 : FVec F S128 .f32) (main_arg4 : FVec F S128x128 .f32) (main_arg5 : FVec F S128 .f32) : IVec S_ 1 :=
  let main_cst : FVec F S_ .f32 := constant S_ .f32 0x00000000#32
  let main_v0 : FVec F S128 .f32 := broadcastInDim S128 ![] bcast_S_S128 main_cst
  let main_v1 : IVec S128 1 := cmpf .oeq main_arg3 main_v0
  let main_c : IVec S_ 1 := constantI S_ 1 1#1
  let main_v2 : IVec S_ 1 := (fun x v => Host.reduce IntOp.andi x v reducesTo_S128_S_d0 h_S_) main_v1 main_c
  let main_cst_0 : FVec F S_ .f32 := constant S_ .f32 0x00000000#32
  let main_v3 : FVec F S128 .f32 := broadcastInDim S128 ![] bcast_S_S128 main_cst_0
  let main_v4 : IVec S128 1 := cmpf .oeq main_arg5 main_v3
  let main_c_1 : IVec S_ 1 := constantI S_ 1 1#1
  let main_v5 : IVec S_ 1 := (fun x v => Host.reduce IntOp.andi x v reducesTo_S128_S_d0 h_S_) main_v4 main_c_1
  let main_v6 : IVec S_ 1 := andi main_v2 main_v5
  main_v6
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S2x5000x128 : Shape := ⟨3, ![2, 5000, 128]⟩
abbrev S2 : Shape := ⟨1, ![2]⟩
abbrev S1 : Shape := ⟨1, ![1]⟩
abbrev S_ : Shape := ⟨0, ![]⟩
abbrev S1x5000x128 : Shape := ⟨3, ![1, 5000, 128]⟩
abbrev S5000x128 : Shape := ⟨2, ![5000, 128]⟩

abbrev nBuf : Space → Nat
  | .hbm => 7
  | .vmem => 4
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .local _ .vmem, ⟨0, _⟩ => ⟨S128x128, .f32⟩
  | .local _ .vmem, ⟨1, _⟩ => ⟨S128x128, .f32⟩
  | .local _ .vmem, ⟨2, _⟩ => ⟨S2x5000x128, .f32⟩
  | .local _ .vmem, ⟨3, _⟩ => ⟨S2x5000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S128x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Proof.Halves.lean ====
/-
  Reading a buffer that was written through two rectangles with no element in common, and reading or writing
  a rectangle of it under another shape with the same elements: what the two slots of a double buffer, and the
  two halves of an array in HBM, hold after one write each.
-/
module

public import Idealize.ShloMosaic.Lib.Writes
public import Idealize.ShloMosaic.Lib.ViewIndex
public import Idealize.ShloMosaic.Lib.Pipeline.Value

@[expose] public section

namespace Cert.Halves

open Idealize.ShloMosaic

variable {sig : RefSig} {κ : Kind} {sp : Space} {s t : Shape} {e : EltTy} {Val : EltTy → Type}

/-- The rectangle written last reads back what was written through it. -/
theorem last_reads (v : View sig κ sp s e) (f : v.ty.Contents Val) (a b : Rect s) (p : a.shape.Idx → Val e) (q : b.shape.Idx → Val e) :
    (v.slice b).read Val (v.writes Val f [⟨b, q⟩, ⟨a, p⟩]) = q := by
  rw [View.writes_cons, View.read_write_univ]

/-- The rectangle written first reads back what was written through it, the other having no element of it. -/
theorem first_reads (v : View sig κ sp s e) (f : v.ty.Contents Val) (a b : Rect s) (hab : Disjoint a.set b.set)
    (p : a.shape.Idx → Val e) (q : b.shape.Idx → Val e) :
    (v.slice a).read Val (v.writes Val f [⟨b, q⟩, ⟨a, p⟩]) = p := by
  rw [View.writes_cons, View.read_slice_write_slice_of_disjoint _ _ _ _ _ ((View.disjoint_slice hab : Disjoint (v.slice a).set (v.slice b).set)),
    View.writes_cons, View.read_write_univ]

/-- A rectangle written under another shape, loaded and put back at that shape, gives the values written. -/
theorem squeezed_last (M : Memref sig κ sp s e) (b : Rect s) (hb : ∀ i, b.stride i = 1) (hq : b.shape.Squeezes t) (hc : b.shape.ShapeCasts t)
    (g : M.view.ty.Contents Val) (q : t.Idx → Val e) :
    shapeCast t (M.view.readAt Val b.toLoadRect (((M.slice b hb).squeeze t hq).view.write Val g q Finset.univ)) hc = q :=
  View.read_write_univ (v := ((M.slice b hb).squeeze t hq).view) g q

/-- The same of a rectangle written before another one with no element of it. -/
theorem squeezed_first (M : Memref sig κ sp s e) (a b : Rect s) (ha : ∀ i, a.stride i = 1) (hb : ∀ i, b.stride i = 1)
    (hab : Disjoint a.set b.set) (hqa : a.shape.Squeezes t) (hqb : b.shape.Squeezes t) (hc : a.shape.ShapeCasts t)
    (f : M.view.ty.Contents Val) (p q : t.Idx → Val e) :
    shapeCast t (M.view.readAt Val a.toLoadRect (((M.slice b hb).squeeze t hqb).view.write Val
      (((M.slice a ha).squeeze t hqa).view.write Val f p Finset.univ) q Finset.univ)) hc = p := by
  have sa : ((M.slice a ha).squeeze t hqa).view.set = (M.view.slice a).set := View.set_reshape (v := M.view.slice a) hqa.numel_eq
  have sb : ((M.slice b hb).squeeze t hqb).view.set = (M.view.slice b).set := View.set_reshape (v := M.view.slice b) hqb.numel_eq
  have apart : ∀ i, i ∈ ((M.slice a ha).squeeze t hqa).view.set → i ∉ ((M.slice b hb).squeeze t hqb).view.set := fun i hi hi' =>
    Finset.disjoint_left.mp (View.disjoint_slice hab : Disjoint (M.view.slice a).set (M.view.slice b).set)
      ((Finset.ext_iff.mp sa i).mp hi) ((Finset.ext_iff.mp sb i).mp hi')
  exact (View.read_congr (v := ((M.slice a ha).squeeze t hqa).view) fun i hi =>
      View.write_of_not_mem (v := ((M.slice b hb).squeeze t hqb).view) _ _ _ (by rw [View.setOn_univ]; exact apart i hi)).trans
    (View.read_write_univ (v := ((M.slice a ha).squeeze t hqa).view) f p)

/-- A rectangle stored last, read at another shape, is the values stored put at that shape. -/
theorem stored_last (M : Memref sig κ sp s e) (f : M.view.ty.Contents Val) (a b : Rect s) (hb : ∀ i, b.stride i = 1)
    (hq : b.shape.Squeezes t) (hc : b.shape.ShapeCasts t) (p : a.shape.Idx → Val e) (q : b.shape.Idx → Val e) :
    ((M.slice b hb).squeeze t hq).view.read Val (M.view.writes Val f [⟨b, q⟩, ⟨a, p⟩]) = shapeCast t q hc :=
  congrArg (fun w => shapeCast t w hc) (last_reads M.view f a b p q)

/-- A rectangle stored before another one with no element of it, read at another shape. -/
theorem stored_first (M : Memref sig κ sp s e) (f : M.view.ty.Contents Val) (a b : Rect s) (ha : ∀ i, a.stride i = 1)
    (hab : Disjoint a.set b.set) (hq : a.shape.Squeezes t) (hc : a.shape.ShapeCasts t) (p : a.shape.Idx → Val e) (q : b.shape.Idx → Val e) :
    ((M.slice a ha).squeeze t hq).view.read Val (M.view.writes Val f [⟨b, q⟩, ⟨a, p⟩]) = shapeCast t p hc :=
  congrArg (fun w => shapeCast t w hc) (first_reads M.view f a b hab p q)

end Cert.Halves
-- ==== Proof.KernelBody.lean ====
/-
  The body of the taken kernel run once, at any float instance: its four transfers, its two chunks of the
  two-layer product, and what the result array holds when the last write-back has been waited for.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameValue
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.Halves

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A core's buffer behind a memref. -/
abbrev BufOf (c : Dev nD) {sp : Space} {S : Shape} {e : EltTy} (M : Memref sig .tc sp S e) : Type :=
  Buf (Elt F) (M.view.loc (c : Thread nD τ))

/-- A core's buffer behind a memref, held whole. -/
abbrev heldAt (c : Dev nD) {sp : Space} {S : Shape} {e : EltTy} (M : Memref sig .tc sp S e) (f : BufOf (F := F) c M) : sProp 𝕄 :=
  M.view.loc (c : Thread nD τ) ↦{fullShare} f

/-- The input left in HBM, the result left in HBM, the two slots of input rows, the two slots of output rows. -/
abbrev xM : Memref sig .tc .hbm S10000x128 .f32 := Memref.whole main_arg0
abbrev yM : Memref sig .tc .hbm S10000x128 .f32 := Memref.whole main_v0
abbrev inM : Memref sig .tc .vmem S2x5000x128 .f32 := Memref.whole cc0_scratch0
abbrev outM : Memref sig .tc .vmem S2x5000x128 .f32 := Memref.whole cc0_scratch1

/-- Rows 0 to 4999 and rows 5000 to 9999 of a ten-thousand-row array. -/
abbrev top : Rect S10000x128 := Rect.unit (s := S10000x128) ![0, 0] S5000x128.size inb_S10000x128_S5000x128_0_0
abbrev bot : Rect S10000x128 := Rect.unit (s := S10000x128) ![5000, 0] S5000x128.size inb_S10000x128_S5000x128_5000_0
/-- The two slots of a double buffer. -/
abbrev slot0 : Rect S2x5000x128 := Rect.unit (s := S2x5000x128) ![0, 0, 0] S1x5000x128.size inb_S2x5000x128_S1x5000x128_0_0_0
abbrev slot1 : Rect S2x5000x128 := Rect.unit (s := S2x5000x128) ![1, 0, 0] S1x5000x128.size inb_S2x5000x128_S1x5000x128_1_0_0

/-- The two slots have no element in common. -/
theorem slots_apart : Disjoint slot0.set slot1.set := Rect.unit_disjoint 0 (Or.inl (by decide))

/-- The two layers on one chunk of 5000 rows: the product with the first weights' transpose, the maximum with zero, the
    product with the second weights' transpose. -/
def layers (v : FVec F S5000x128 .f32) (w1 w2 : FVec F S128x128 .f32) : FVec F S5000x128 .f32 :=
  matmul dot_S5000x128_S128x128_S5000x128_1_1_0_0_n_n none
    (maximumf (matmul dot_S5000x128_S128x128_S5000x128_1_1_0_0_n_n none v w1 (constant S5000x128 .f32 0x00000000#32))
      (broadcast S5000x128 (Scalar.ofBits .f32 0x00000000#32 : F .f32)))
    w2 (constant S5000x128 .f32 0x00000000#32)

/-- The rows of the input a chunk reads. -/
def chunk (c : Dev nD) (x : BufOf (F := F) c xM) (r : Rect S10000x128) : r.shape.Idx → Elt F .f32 := (xM.view.slice r).read (Elt F) x

/-- The result array after both write-backs, over what it held: each half the two layers of the input's rows there. -/
def resultOver (c : Dev nD) (x : BufOf (F := F) c xM) (w1 w2 : FVec F S128x128 .f32) (y0 : BufOf (F := F) c yM) : BufOf (F := F) c yM :=
  yM.view.writes (Elt F) y0 [⟨bot, layers (chunk c x bot) w1 w2⟩, ⟨top, layers (chunk c x top) w1 w2⟩]

/-- The body on the two weight windows at any contents, the two double buffers at anything, its four cells at zero, the
    input and the result whole in HBM: it ends with the windows, the input and the cells as they were and the result
    at the two layers of the input's rows. -/
theorem body_run (c : Dev nD)
    (a1 : Memref sig .tc .vmem S128x128 .f32) (ha1 : a1.IsWhole) (a2 : Memref sig .tc .vmem S128x128 .f32) (ha2 : a2.IsWhole)
    (x : BufOf (F := F) c xM) (w1 w2 : Vec F S128x128 .f32) (y0 : BufOf (F := F) c yM)
    (W : Waits sig Unit) (K : PUnit → sProp 𝕄) :
    iprop(owns (c : Thread nD τ) a1 fullShare w1 ∗ owns (c : Thread nD τ) a2 fullShare w2
        ∗ (∃ f, heldAt c inM f) ∗ (∃ f, heldAt c outM f)
        ∗ semVal ((c : Thread nD τ), SemLoc.dma 2) 0 ∗ semVal ((c : Thread nD τ), SemLoc.dma 3) 0
        ∗ semVal ((c : Thread nD τ), SemLoc.dma 4) 0 ∗ semVal ((c : Thread nD τ), SemLoc.dma 5) 0
        ∗ heldAt c xM x ∗ heldAt c yM y0
        ∗ owes (c : Thread nD τ) 0 W
        ∗ (iprop(owns (c : Thread nD τ) a1 fullShare w1 ∗ owns (c : Thread nD τ) a2 fullShare w2
            ∗ (∃ f, heldAt c inM f) ∗ (∃ f, heldAt c outM f)
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ heldAt c xM x ∗ heldAt c yM (resultOver c x w1 w2 y0)
            ∗ (∃ W', owes (c : Thread nD τ) 0 W')) -∗ K ⟨⟩))
      ⊢ wp frame (wpE (defs₀ (F := F)) Variants.none c none) Set.univ
          (cc0__mlp_kernel xM (Memref.isWhole_whole _) a1 ha1 a2 ha2 yM (Memref.isWhole_whole _)
            inM (Memref.isWhole_whole _) outM (Memref.isWhole_whole _) cc0_scratch2 cc0_scratch3) K := by
  simp only [cc0__mlp_kernel_eq_skeleton]; unfold cc0__mlp_kernel_skel
  unfold owns
  iintro ⟨⟨%f1, %h1, H1⟩, ⟨%f2, %h2, H2⟩, ⟨%s0, HS0⟩, ⟨%s1, HS1⟩, Hq2, Hq3, Hq4, Hq5, HX, HY, HW, Hk⟩
  set_option sl_exec.dmaWindow true in
  set_option sl_exec.dmaWindowSet true in
  sl_exec
  have hw1 : View.readAt (Elt F) a1.view (Rect.unit ![0, 0] S128x128.size inb_S128x128_S128x128_0_0).toLoadRect f1 = w1 :=
    (View.readAt_full _ _ _).trans h1
  have hw2 : View.readAt (Elt F) a2.view (Rect.unit ![0, 0] S128x128.size inb_S128x128_S128x128_0_0).toLoadRect f2 = w2 :=
    (View.readAt_full _ _ _).trans h2
  -- the two slots of input rows, as loaded
  have hv0 : shapeCast S5000x128 (body_run.sl.v20 c x s0) shapeCasts_S1x5000x128_S5000x128 = chunk c x top :=
    Halves.squeezed_first inM slot0 slot1 _ _ slots_apart _ _ _ s0 _ _
  have hv1 : shapeCast S5000x128 (body_run.sl.v31 c x s0) shapeCasts_S1x5000x128_S5000x128 = chunk c x bot :=
    Halves.squeezed_last inM slot1 _ _ _ _ _
  have hL : body_run.sl.HS1_2 c a1 a2 x f1 f2 s0
      = [⟨slot1, shapeCast S1x5000x128 (layers (chunk c x bot) w1 w2) shapeCasts_S5000x128_S1x5000x128⟩,
          ⟨slot0, shapeCast S1x5000x128 (layers (chunk c x top) w1 w2) shapeCasts_S5000x128_S1x5000x128⟩] := by
    unfold body_run.sl.HS1_2 body_run.sl.r
    rw [hw1, hw2, ← hv0, ← hv1]
    rfl
  have hy1 : body_run.sl.dma10_1 c a1 a2 x f1 f2 s0 s1 = layers (chunk c x bot) w1 w2 := by
    unfold body_run.sl.dma10_1
    rw [hL]
    exact (Halves.stored_last outM s1 slot0 slot1 _ _ shapeCasts_S1x5000x128_S5000x128 _ _).trans (shapeCast_shapeCast _ _ _)
  have hy0 : body_run.sl.dma10 c a1 a2 x f1 f2 s0 s1 = layers (chunk c x top) w1 w2 := by
    unfold body_run.sl.dma10
    rw [hL]
    exact (Halves.stored_first outM s1 slot0 slot1 _ slots_apart _ shapeCasts_S1x5000x128_S5000x128 _ _).trans (shapeCast_shapeCast _ _ _)
  rw [hy1, hy0]
  sl_step
  iapply Hk
  isplitl [H1]; · iexists f1; isplitr; · ipureintro; exact h1
                  iexact H1
  isplitl [H2]; · iexists f2; isplitr; · ipureintro; exact h2
                  iexact H2
  isplitl [HS0]; · iexists _; iexact HS0
  isplitl [HS1]; · iexists _; iexact HS1
  isplitl [Hq2]; · iexact Hq2
  isplitl [Hq3]; · iexact Hq3
  isplitl [Hq4]; · iexact Hq4
  isplitl [Hq5]; · iexact Hq5
  isplitl [HX]; · iexact HX
  isplitl [HY]; · iexact HY
  iexists _; iexact HW

end Cert.Kernel.Hand

end
-- ==== Proof.KernelRun.lean ====
/-
  The taken kernel launched, at any float instance: it terminates without a fault, its six arguments end as they
  began, every semaphore counter ends at zero, and the result array ends at the two layers of the input's rows.
  The launch's set-up (invariant, own cells, buffers read and written) follows the library's road for a body
  with transfers of its own, in the form that names what a written buffer holds at the end.
-/
module

public import proofs.«01_k».proof.Proof.KernelBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region finds and what the body leaves -/

/-- A core's buffers when the region is entered: as launched. -/
abbrev V (c : Dev nD) (b : Ref sig .tc) : Buf (Elt F) ((c : Thread nD τ).loc b) := m ((c : Thread nD τ).loc b)

/-- The two weight arrays, as the windows' one block each. -/
def blkAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the result array holds at the end. -/
def finalY (c : Dev nD) : BufOf (F := F) c yM :=
  resultOver c (V m c main_arg0) (blkAt m c 0 t0_0) (blkAt m c 1 t0_0) (V m c main_v0)

/-- A core's buffers after the body: the result replaced. -/
def G (c : Dev nD) : (b : Ref sig .tc) → Buf (Elt F) ((c : Thread nD τ).loc b) :=
  Function.update (V m c) main_v0 (finalY m c)

/-! ## The kernel's own cells, the array it reads, the array it writes -/

/-- The body's four cells: two for the copies in, two for the copies out. -/
abbrev cells4 : Fin 4 → SemLoc sig := fun j => (![SemLoc.dma 2, SemLoc.dma 3, SemLoc.dma 4, SemLoc.dma 5] : Fin 4 → SemLoc sig) j

/-- They are cells of the kernel's own: no window's. -/
theorem cells4_own : Pipeline.OwnSemFacts spec0 cells4 := by decide

/-- The four cells at zero, one by one. -/
theorem cells4_eq (c : Dev nD) :
    (Pipeline.ownSems0 (Ix := Unit) (Name := ℕ) (U := Pipeline.UD sig nD τ) (Lvl := ℕ) (Val := Elt F) (τ := τ) cells4 c : sProp 𝕄)
      = iprop(semVal ((c : Thread nD τ), SemLoc.dma 2) 0 ∗ semVal ((c : Thread nD τ), SemLoc.dma 3) 0
          ∗ semVal ((c : Thread nD τ), SemLoc.dma 4) 0 ∗ semVal ((c : Thread nD τ), SemLoc.dma 5) 0) := by
  rw [Pipeline.ownSems0_eq_of_list c cells4 [0, 1, 2, 3] (by decide) (by decide)]; rfl

/-- The array the copies in read. -/
def readH : Finset (Ref sig .tc) := {main_arg0}
/-- The array the copies out write. -/
def writtenH : Finset (Ref sig .tc) := {main_v0}

/-- The array read is no window's array. -/
theorem readH_sub : readH ⊆ Pipeline.restRefs sig spec0 := by decide
/-- Nor is the array written, and the two are different. -/
theorem writtenH_sub : writtenH ⊆ Pipeline.restRefs sig spec0 \ readH := by decide

/-- The invariant at any contents of the written array, buffer by buffer and cell by cell. -/
theorem inv_eq (c : Dev nD) (Gn : (c : Dev nD) → (b : Ref sig .tc) → Buf (Elt F) ((c : Thread nD τ).loc b)) :
    (Pipeline.ΦDRG cells4 spec0 readH writtenH (V m) Gn c : sProp 𝕄)
      = iprop(iprop((∃ f, heldAt c inM f) ∗ (∃ f, heldAt c outM f)) ∗ (∃ r, prngReg c r)
          ∗ iprop(semVal ((c : Thread nD τ), SemLoc.dma 2) 0 ∗ semVal ((c : Thread nD τ), SemLoc.dma 3) 0
              ∗ semVal ((c : Thread nD τ), SemLoc.dma 4) 0 ∗ semVal ((c : Thread nD τ), SemLoc.dma 5) 0)
          ∗ heldAt c xM (V m c main_arg0) ∗ heldAt c yM (Gn c main_v0)) := by
  rw [Pipeline.ΦDRG_eq, scopedRest0_eq, cells4_eq]
  unfold Pipeline.routed
  rw [BI.bigSep_eq_bigSepL_of_eq (S := readH) [main_arg0] (by decide) (by decide),
    BI.bigSep_eq_bigSepL_of_eq (S := writtenH) [main_v0] (by decide) (by decide)]
  rfl

/-! ## The proof data and the body obligation -/

/-- The one pipeline's data on a core: each window's buffer keeps its block; before the point the result array is as
    launched, after it at its final contents. -/
def dats (_ : Fin 1) (c : Dev nD) : Dat τ (Elt F) Unit ℕ (Pipeline.UD sig nD τ) ℕ cfg0 c where
  A w := V m c (Pipeline.arrRef spec0 w)
  after w t := match w with
    | ⟨0, _⟩ => blkAt m c 0 t
    | ⟨1, _⟩ => blkAt m c 1 t
  Φ p := if p.val = 0 then Pipeline.ΦDRG cells4 spec0 readH writtenH (V m) (V m) c
    else Pipeline.ΦDRG cells4 spec0 readH writtenH (V m) (G m) c
  q _ := fullShare
  owed _ := 0

/-- The data's arrays are the buffers as launched. -/
theorem A_eq (c : Dev nD) (w : Fin cfg0.W) : (dats m 0 c).A w = V m c (Pipeline.arrRef spec0 w) := by
  dsimp only [dats]

/-- The body leaves the first weights' block in place. -/
theorem after0 (c : Dev nD) (t : Fin cfg0.N) : (dats m 0 c).after 0 t = blkAt m c 0 t := by dsimp only [dats]
/-- The body leaves the second weights' block in place. -/
theorem after1 (c : Dev nD) (t : Fin cfg0.N) : (dats m 0 c).after 1 t = blkAt m c 1 t := by dsimp only [dats]

/-- The first window holds its block when the body starts. -/
theorem before0 (c : Dev nD) (t : Fin cfg0.N) (d) : (dats m 0 c).before 0 t d = blkAt m c 0 t :=
  ((dats m 0 c).before_in_eq_fetched 0 rfl (fun _ => rfl) (fun _ _ _ => rfl)
    (fun t => by rw [after0]; unfold Dat.blockOf blkAt; rw [A_eq]) t d).trans (by unfold Dat.fetched Dat.blockOf blkAt; rw [A_eq]; try rfl)
/-- And so does the second window. -/
theorem before1 (c : Dev nD) (t : Fin cfg0.N) (d) : (dats m 0 c).before 1 t d = blkAt m c 1 t :=
  ((dats m 0 c).before_in_eq_fetched 1 rfl (fun _ => rfl) (fun _ _ _ => rfl)
    (fun t => by rw [after1]; unfold Dat.blockOf blkAt; rw [A_eq]) t d).trans (by unfold Dat.fetched Dat.blockOf blkAt; rw [A_eq]; try rfl)

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
/-- What the body ends with at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at the one grid point, from the launch's invariant to the final one. -/
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [show (dats m 0 c).Φ (t0_0 : Fin cfg0.N).castSucc = Pipeline.ΦDRG cells4 spec0 readH writtenH (V m) (V m) c from rfl,
    show (dats m 0 c).Φ (t0_0 : Fin cfg0.N).succ = Pipeline.ΦDRG cells4 spec0 readH writtenH (V m) (G m) c from rfl, inv_eq, inv_eq]
  simp only [before0, before1, after0, after1]
  rw [show G m c main_v0 = finalY m c from Function.update_self _ _ _]
  unfold finalY
  unfold Dat.owesAt Pipeline.owesWithin
  rw [show (dats m 0 c).owed (t0_0 : Fin cfg0.N).castSucc = 0 from rfl, show (dats m 0 c).owed (t0_0 : Fin cfg0.N).succ = 0 from rfl]
  iintro ⟨⟨⟨HS0, HS1⟩, Hg, ⟨Hq2, Hq3, Hq4, Hq5⟩, HX, HY⟩, ⟨%W, -, HW⟩, ⟨%d0, H0⟩, ⟨%d1, H1⟩⟩
  iapply (body_run c _ _ _ _ (V m c main_arg0) (blkAt m c 0 t0_0) (blkAt m c 1 t0_0) (V m c main_v0) W _)
  isplitl [H0]; · iexact H0
  isplitl [H1]; · iexact H1
  isplitl [HS0]; · iexact HS0
  isplitl [HS1]; · iexact HS1
  isplitl [Hq2]; · iexact Hq2
  isplitl [Hq3]; · iexact Hq3
  isplitl [Hq4]; · iexact Hq4
  isplitl [Hq5]; · iexact Hq5
  isplitl [HX]; · iexact HX
  isplitl [HY]; · iexact HY
  isplitl [HW]; · iexact HW
  iintro ⟨H0, H1, HS0, HS1, Hq2, Hq3, Hq4, Hq5, HX, HY, ⟨%W', HW'⟩⟩
  isplitl [HS0 HS1 Hg Hq2 Hq3 Hq4 Hq5 HX HY]
  · isplitl [HS0 HS1]
    · isplitl [HS0]; · iexact HS0
      iexact HS1
    isplitl [Hg]; · iexact Hg
    isplitl [Hq2 Hq3 Hq4 Hq5]
    · isplitl [Hq2]; · iexact Hq2
      isplitl [Hq3]; · iexact Hq3
      isplitl [Hq4]; · iexact Hq4
      iexact Hq5
    isplitl [HX]; · iexact HX
    iexact HY
  isplitl [HW']
  · iexists W'; isplitr; · ipureintro; exact fun _ _ => Or.inl trivial
    iexact HW'
  isplitl [H0]; · iexact H0
  iexact H1

/-- The body's entry in the table is the kernel at the point's windows. -/
theorem defs₀_row (t : Fin cfg0.N) :
    defs₀ (F := F) .tc cfg0.body (cfg0.bodyArgs t (cfg0.slots t)) = bodyAt0 t := by
  unfold defs₀; rw [Defs.onTc_tc]

/-- The body obligation of the pipeline, at its one point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The program is the region, entered with the buffers as launched. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- The launched program terminates with the windows' arrays and the rest as launched, the written array at `G`, and every
    counter at zero. -/
theorem run_main : θ_run defs (onTc (τ := τ) (main (F := F))) (s₀ m ρ)
    (fun r => Pipeline.FramePostRG cfgs (dats m) 0 writtenH (V m) (G m) r ∧ r.2.sem = fun _ => 0) :=
  Pipeline.θ_run_frame_dmaRG (Q' := _) cfgs (dats m) (0 : Fin 1) launch0 cells4 defs₀ Variants.none cells4_own readH writtenH readH_sub writtenH_sub m ρ main
    (hbody := fun c => (body_obligation m c).loose) (hshare := fun c => (dats m 0 c).share_full fun _ => rfl)
    (howed := fun _ _ => rfl) (V := V m) (hmain := hmain m Variants.none) (hA := A_eq m) (G := G m)
    (hin := fun _ => .rfl) (hout := fun _ => .rfl)

/-- An array that is neither staged nor written by the body ends as launched. -/
theorem untouched {r : PUnit × MemSt nD τ sig (Elt F)} (h : Pipeline.FramePostRG cfgs (dats m) 0 writtenH (V m) (G m) r) (c : Dev nD)
    (b : Ref sig .tc) (hb : b ∈ Pipeline.restRefs sig spec0 \ writtenH) :
    r.2.mem ((c.tc : Thread nD τ).loc b) = m ((c.tc : Thread nD τ).loc b) := (h.toR c).2 b hb

/-- A window's array ends as launched. -/
theorem staged {r : PUnit × MemSt nD τ sig (Elt F)} (h : Pipeline.FramePostRG cfgs (dats m) 0 writtenH (V m) (G m) r) (c : Dev nD)
    (w : Fin cfg0.W) (hw : (cfg0.spec w).isOut = false) :
    r.2.mem ((c.tc : Thread nD τ).loc (Pipeline.arrRef spec0 w)) = m ((c.tc : Thread nD τ).loc (Pipeline.arrRef spec0 w)) :=
  ((h.toR c).1 w).trans (((dats m 0 c).arrAt_in w hw _).trans (A_eq m c w))

/-- The frame and the value in one run: the arguments as launched, every counter at zero, the result at `finalY`. -/
theorem run : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v0) = finalY m c)
    ∧ r.2.sem = fun _ => 0) :=
  (θ_run defs _ _).mono (fun _ h => ⟨fun c => ⟨⟨untouched m h.1 c main_arg0 (by decide), untouched m h.1 c main_arg1 (by decide),
      staged m h.1 c 0 rfl, untouched m h.1 c main_arg3 (by decide), staged m h.1 c 1 rfl, untouched m h.1 c main_arg5 (by decide)⟩,
    (h.1.written c (by decide)).trans (Function.update_self _ _ _)⟩, h.2⟩) (run_main m ρ)

/-- The frame claim's post, at any float instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).1, h.2⟩) (run m ρ)

end Cert.Kernel.Hand

end
-- ==== Proof.KernelIdealRun.lean ====
/-
  The kernel printed for the ideal reading is the kernel as printed, text for text (no operation was rewritten), so
  what is proved of the one at every float instance holds of the other.
-/
module

public import proofs.«01_k».proof.Proof.KernelRun
public import proofs.«01_k».proof.Proof.Gen.KernelIdeal

@[expose] public section

set_option maxRecDepth 16384

noncomputable section

namespace Cert.KernelIdeal.Hand

open Idealize.ShloMosaic Idealize.ShloMosaic.TcCoe Idealize.SL.Sem

variable {F : FTy → Type} [FloatOps F]

/-- The two body tables are the same table. -/
theorem bodies_same : Cert.KernelIdeal.defs₀ (F := F) = Cert.Kernel.defs₀ (F := F) :=
  congrArg Defs.onTc (funext fun l => funext fun a => by
    match l, a with
    | 0, (t, s) => rfl)

/-- So are the tables with the pipeline's own region. -/
theorem defs_same : Cert.KernelIdeal.defs (F := F) = Cert.Kernel.defs (F := F) :=
  congrArg (Pipeline.defs Cert.Kernel.pcfgs) bodies_same

open Cert.KernelIdeal

variable (m : (ℓ : Loc nD τ sig) → Buf (Elt F) ℓ) (ρ : Dev nD → PrngReg)

/-- The frame and the value of the ideal printing in one run: the arguments as launched, every counter at zero, the
    result at the two layers of the input's rows. -/
theorem run : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v0) = Cert.Kernel.Hand.finalY m c)
    ∧ r.2.sem = fun _ => 0) := by
  rw [defs_same]
  exact Cert.Kernel.Hand.run m ρ

end Cert.KernelIdeal.Hand

end
-- ==== Proof.Value.lean ====
/-
  The value at exact arithmetic. The two layers of one row, as sums over the two contracted axes, is what the taken
  kernel leaves in the result array and what the reference computes when both bias vectors are zero.
-/
module

public import proofs.«01_k».proof.Proof.KernelRun
public import proofs.«01_k».proof.Proof.Gen.ReferenceIdeal
public import proofs.«01_k».proof.Proof.Gen.Pre_zero_biases
public import Idealize.ShloMosaic.Lib.Pointwise
public import Idealize.ShloMosaic.Lib.Affine

@[expose] public section

set_option maxRecDepth 16384

noncomputable section

open Idealize.ShloMosaic Idealize.ShloMosaic.TcCoe

namespace Cert.Kernel.Hand

open Cert.Kernel Cert.Kernel.Gen

/-- One element of the two layers: the hidden row is the input row times each row of the first weights, cut below at
    zero, and the element is that row times one row of the second weights. -/
def mlp (x : FVec Ideal S10000x128 .f32) (w1 w2 : FVec Ideal S128x128 .f32) (r : Fin 10000) (o : Fin 128) : EReal :=
  ∑ k : Fin 128, max (∑ j : Fin 128, (x (ix2 r j) : EReal) * w1 (ix2 k j)) 0 * w2 (ix2 o k)

/-- The layers of a chunk of rows, read at one element. -/
theorem layers_at (v : FVec Ideal S5000x128 .f32) (w1 w2 : FVec Ideal S128x128 .f32) (i : Fin 5000) (o : Fin 128) :
    layers v w1 w2 (ix2 i o)
      = ∑ k : Fin 128, max (∑ j : Fin 128, (v (ix2 i j) : EReal) * w1 (ix2 k j)) 0 * w2 (ix2 o k) := by
  pointwise [layers]

/-- Row `i` of the first chunk is row `i` of the array. -/
theorem top_at (i : Fin 5000) (o : Fin 128) : top.emb (ix2 i o) = (ix2 ⟨i, by omega⟩ o : S10000x128.Idx) := by
  refine funext fun a => Fin.ext ?_
  rw [Rect.emb_apply]
  match a with
  | 0 => show 0 + 1 * i.val = i.val; omega
  | 1 => show 0 + 1 * o.val = o.val; omega

/-- Row `i` of the second chunk is row `5000 + i` of the array. -/
theorem bot_at (i : Fin 5000) (o : Fin 128) : bot.emb (ix2 i o) = (ix2 ⟨5000 + i, by omega⟩ o : S10000x128.Idx) := by
  refine funext fun a => Fin.ext ?_
  rw [Rect.emb_apply]
  match a with
  | 0 => show 5000 + 1 * i.val = 5000 + i.val; omega
  | 1 => show 0 + 1 * o.val = o.val; omega

/-- The two chunks of the array share no row. -/
theorem halves_apart : Disjoint top.set bot.set := by
  exact Rect.unit_disjoint 0 (Or.inl (by decide))

/-- A chunk of the array, read at one of its elements, is the array at that element's place. -/
theorem slice_at (f : FVec Ideal S10000x128 .f32) (r : Rect S10000x128) (i : r.shape.Idx) :
    (yM.view.slice r).read (Elt Ideal) f i = f (r.emb i) := rfl

/-- The result array after the body holds the two layers at every element. -/
theorem resultOver_at (c : Dev nD) (x : BufOf (F := Ideal) c xM) (w1 w2 : FVec Ideal S128x128 .f32) (y0 : BufOf (F := Ideal) c yM)
    (r : Fin 10000) (o : Fin 128) :
    (resultOver c x w1 w2 y0 : FVec Ideal S10000x128 .f32) (ix2 r o) = mlp x w1 w2 r o := by
  by_cases h : r.val < 5000
  · rw [show (ix2 r o : S10000x128.Idx) = top.emb (ix2 (⟨r, h⟩ : Fin 5000) o) from (top_at ⟨r, h⟩ o).symm]
    refine (slice_at _ top _).symm.trans ?_
    unfold resultOver
    rw [Cert.Halves.first_reads yM.view y0 top bot halves_apart, layers_at]
    exact Finset.sum_congr rfl fun k _ => congrArg (fun z : EReal => max z 0 * w2 (ix2 o k))
      (Finset.sum_congr rfl fun j _ => congrArg (fun z : EReal => z * w1 (ix2 k j)) (congrArg (x : FVec Ideal S10000x128 .f32) (top_at ⟨r, h⟩ j)))
  · obtain ⟨i, hi⟩ : ∃ i : Fin 5000, r = ⟨5000 + i.val, Nat.add_lt_add_left i.isLt 5000⟩ := ⟨⟨r.val - 5000, by omega⟩, Fin.ext (by show r.val = 5000 + (r.val - 5000); omega)⟩
    subst hi
    rw [← bot_at i o]
    refine (slice_at _ bot _).symm.trans ?_
    unfold resultOver
    rw [Cert.Halves.last_reads yM.view y0 top bot, layers_at]
    exact Finset.sum_congr rfl fun k _ => congrArg (fun z : EReal => max z 0 * w2 (ix2 o k))
      (Finset.sum_congr rfl fun j _ => congrArg (fun z : EReal => z * w1 (ix2 k j)) (congrArg (x : FVec Ideal S10000x128 .f32) (bot_at i j)))

/-- The first window's block is the whole of the first weights. -/
theorem blk0_eq (m : (ℓ : Loc nD τ sig) → Buf (Elt Ideal) ℓ) (c : Dev nD) :
    (blkAt m c 0 t0_0 : FVec Ideal S128x128 .f32) = m ((c.tc : Thread nD τ).loc main_arg2) := by
  refine funext fun j => congrArg (m ((c.tc : Thread nD τ).loc main_arg2)) (funext fun a => Fin.ext ?_)
  match a with
  | 0 => show 0 + 1 * (j 0).val = (j 0).val; omega
  | 1 => show 0 + 1 * (j 1).val = (j 1).val; omega

/-- The second window's block is the whole of the second weights. -/
theorem blk1_eq (m : (ℓ : Loc nD τ sig) → Buf (Elt Ideal) ℓ) (c : Dev nD) :
    (blkAt m c 1 t0_0 : FVec Ideal S128x128 .f32) = m ((c.tc : Thread nD τ).loc main_arg4) := by
  refine funext fun j => congrArg (m ((c.tc : Thread nD τ).loc main_arg4)) (funext fun a => Fin.ext ?_)
  match a with
  | 0 => show 0 + 1 * (j 0).val = (j 0).val; omega
  | 1 => show 0 + 1 * (j 1).val = (j 1).val; omega

/-- What the launch leaves in the result array, at every element, from the launch memory's input and weights. -/
theorem finalY_at (m : (ℓ : Loc nD τ sig) → Buf (Elt Ideal) ℓ) (c : Dev nD) (r : Fin 10000) (o : Fin 128) :
    (finalY m c : FVec Ideal S10000x128 .f32) (ix2 r o)
      = mlp (m ((c.tc : Thread nD τ).loc main_arg0)) (m ((c.tc : Thread nD τ).loc main_arg2)) (m ((c.tc : Thread nD τ).loc main_arg4)) r o := by
  refine (resultOver_at c _ _ _ _ r o).trans ?_
  rw [blk0_eq, blk1_eq]

end Cert.Kernel.Hand

namespace Cert.Pre_zero_biases

open Cert.Pre_zero_biases Cert.Pre_zero_biases.Gen

/-- A conjunction over all positions that comes out true was true at each. -/
theorem all_true {n : Nat} (f : Fin n → Bool) (h : Finset.univ.fold IntOp.andi 1#1 (fun k => BitVec.ofBool (f k)) = 1#1) (k : Fin n) :
    f k = true := by
  have hk : BitVec.ofBool (f k) = 1#1 :=
    ((Finset.fold_op_rel_iff_and (r := fun _ y => y = 1#1) (c := (0 : Nat)) (by intro x y z; revert y z; decide)).1 h).2 k (Finset.mem_univ _)
  revert hk
  cases f k <;> decide

/-- Where the precondition holds, every element of both biases is zero. -/
theorem zero_of (x : FVec Ideal S10000x128 .f32) (e : IVec S2x320000 32) (w1 : FVec Ideal S128x128 .f32) (b1 : FVec Ideal S128 .f32) (w2 : FVec Ideal S128x128 .f32) (b2 : FVec Ideal S128 .f32)
    (h : Cert.Pre_zero_biases.fn (F := Ideal) x e w1 b1 w2 b2 = fun _ => 1#1) (k : Fin 128) :
    (b1 (ix1 k) : EReal) = 0 ∧ (b2 (ix1 k) : EReal) = 0 := by
  have h0 := congrFun h ix0
  pointwise [Cert.Pre_zero_biases.fn] at h0
  have h1 := IntOp.andi_eq_one.1 h0
  exact ⟨of_decide_eq_true (all_true _ h1.1 k), of_decide_eq_true (all_true _ h1.2 k)⟩
end Cert.Pre_zero_biases

namespace Cert.ReferenceIdeal.Hand

open Cert.ReferenceIdeal Cert.ReferenceIdeal.Gen

/-- The reference's result as its operations' composed term, over variables. -/
def refOut (x : FVec Ideal S10000x128 .f32) (w1 : FVec Ideal S128x128 .f32) (b1 : FVec Ideal S128 .f32)
    (w2 : FVec Ideal S128x128 .f32) (b2 : FVec Ideal S128 .f32) : FVec Ideal S10000x128 .f32 :=
  addf (Host.dotGeneral dot_S10000x128_S128x128_S10000x128_1_0_0_1_n_n none
      (maximumf (addf (Host.dotGeneral dot_S10000x128_S128x128_S10000x128_1_0_0_1_n_n none x (transpose S128x128 [1, 0] w1 transposes_S128x128_S128x128_1_0))
        (broadcastInDim S10000x128 ![0, 1] bcast_S1x128_S10000x128_0_1 (broadcastInDim S1x128 ![1] bcast_S128_S1x128_1 b1)))
        (broadcastInDim S10000x128 ![] bcast_S_S10000x128 (constant S_ .f32 0x00000000#32)))
      (transpose S128x128 [1, 0] w2 transposes_S128x128_S128x128_1_0))
    (broadcastInDim S10000x128 ![0, 1] bcast_S1x128_S10000x128_0_1 (broadcastInDim S1x128 ![1] bcast_S128_S1x128_1 b2))

/-- With both biases zero the reference computes the two layers at every element. -/
theorem refOut_at (x : FVec Ideal S10000x128 .f32) (w1 : FVec Ideal S128x128 .f32) (b1 : FVec Ideal S128 .f32)
    (w2 : FVec Ideal S128x128 .f32) (b2 : FVec Ideal S128 .f32)
    (h : ∀ k : Fin 128, (b1 (ix1 k) : EReal) = 0 ∧ (b2 (ix1 k) : EReal) = 0) (r : Fin 10000) (o : Fin 128) :
    refOut x w1 b1 w2 b2 (ix2 r o) = Cert.Kernel.Hand.mlp x w1 w2 r o := by
  pointwise [refOut, Cert.Kernel.Hand.mlp]
  rw [(h o).2, add_zero]
  exact Finset.sum_congr rfl fun k _ => by rw [(h k).1, add_zero]

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_zero_biases
public import proofs.«01_k».proof.Proof.KernelIdealRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- The result array of the ideal kernel, as one value over its launch memory: the two layers of the input's rows. -/
def value (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v0) :=
  Cert.Kernel.Hand.finalY (F := Ideal) m c

/-- The value claim: where both biases are zero, the kernel and the reference end with equal results. -/
theorem value_claim : Cert.algebraic_KernelIdeal_ReferenceIdeal_pre_zero_biases
    (hKernelIdeal := Cert.KernelIdeal.Gen.facts) (hReferenceIdeal := Cert.ReferenceIdeal.Gen.facts) (hPre_zero_biases := Cert.Pre_zero_biases.Gen.facts) := by
  intro m g m' g' hpre hargs
  refine ⟨value m, ?_, ?_⟩
  · exact (θ_run _ _ _).mono (fun _ h c => ⟨(h.1 c).2, (h.1 c).1⟩) (Cert.KernelIdeal.Hand.run m g)
  · refine (θ_run _ _ _).mono (fun _ h c => ⟨(h c).1.trans ?_, (h c).2⟩) (Cert.ReferenceIdeal.Value.run m' g')
    obtain ⟨h0, -, h2, h3, h4, h5⟩ := hargs c
    rw [h0, h2, h3, h4, h5]
    refine funext fun j => ?_
    rw [eq_ix2 j]
    refine (Cert.ReferenceIdeal.Hand.refOut_at _ _ _ _ _ (Cert.Pre_zero_biases.zero_of _ _ _ _ _ _ (hpre c)) (j 0) (j 1)).trans ?_
    exact (Cert.Kernel.Hand.finalY_at m c (j 0) (j 1)).symm

/-- The ideal kernel's frame: it runs, its arguments end unchanged, every counter ends at zero. -/
theorem frame_ideal : Cert.quiescent_KernelIdeal (hKernelIdeal := Cert.KernelIdeal.Gen.facts) :=
  fun m g _ => (θ_run _ _ _).mono (fun _ h => ⟨fun c => (h.1 c).1, h.2⟩) (Cert.KernelIdeal.Hand.run m g)

/-- The reference's frame: its run leaves the arguments unchanged, and it declares no semaphore. -/
theorem frame_reference : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

/-- The claims together; the frames under the precondition are the frames without it. -/
theorem claim : Cert.Claim := ⟨Cert.Kernel.Gen.facts, Cert.KernelIdeal.Gen.facts, Cert.ReferenceIdeal.Gen.facts, Cert.Pre_zero_biases.Gen.facts,
  fun m g _ => Cert.Kernel.Hand.frame m g,
  frame_ideal, fun m g _ => frame_ideal m g trivial,
  frame_reference, fun m g _ => frame_reference m g trivial,
  trivial,
  value_claim⟩

end Cert.Proof

end
